-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_nonneg [hPre_mask_nonneg : Cert.Pre_mask_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_mask_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_nonneg [hPre_mask_nonneg : Cert.Pre_mask_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mask_nonneg [hKernelIdeal : Cert.KernelIdeal.Facts] [hPre_mask_nonneg : Cert.Pre_mask_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mask_nonneg [hReferenceIdeal : Cert.ReferenceIdeal.Facts] [hPre_mask_nonneg : Cert.Pre_mask_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mask_nonneg [hKernelIdeal : Cert.KernelIdeal.Facts] [hReferenceIdeal : Cert.ReferenceIdeal.Facts] [hPre_mask_nonneg : Cert.Pre_mask_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mask_nonneg : Cert.Pre_mask_nonneg.Facts),
    quiescent_Kernel (hKernel := hKernel)
    ∧ quiescent_KernelIdeal (hKernelIdeal := hKernelIdeal)
    ∧ quiescent_KernelIdeal_pre_mask_nonneg (hKernelIdeal := hKernelIdeal) (hPre_mask_nonneg := hPre_mask_nonneg)
    ∧ quiescent_ReferenceIdeal (hReferenceIdeal := hReferenceIdeal)
    ∧ quiescent_ReferenceIdeal_pre_mask_nonneg (hReferenceIdeal := hReferenceIdeal) (hPre_mask_nonneg := hPre_mask_nonneg)
    ∧ preserves_Kernel_KernelIdeal
    ∧ algebraic_KernelIdeal_ReferenceIdeal_pre_mask_nonneg (hKernelIdeal := hKernelIdeal) (hReferenceIdeal := hReferenceIdeal) (hPre_mask_nonneg := hPre_mask_nonneg)
-- ==== Pre_mask_nonneg.lean ====
abbrev S4x96x224x224 : Shape := ⟨4, ![4, 96, 224, 224]⟩
abbrev S4x1x224x224 : Shape := ⟨4, ![4, 1, 224, 224]⟩
abbrev S96x96x3x3 : Shape := ⟨4, ![96, 96, 3, 3]⟩
abbrev S96 : Shape := ⟨1, ![96]⟩
abbrev S_ : Shape := ⟨0, ![]⟩

class Facts : Prop where
  bcast_S_S4x1x224x224 : S_.BroadcastsInDim S4x1x224x224 (![] : Fin 0 → Fin S4x1x224x224.rank)
  reducesTo_S4x1x224x224_S_d0_1_2_3 : S4x1x224x224.ReducesTo [0, 1, 2, 3] S_
  h_S_ : 0 < S_.numel

variable [Facts]

def fn {F : FTy → Type} [FloatOps F] (main_arg0 : FVec F S4x96x224x224 .f32) (main_arg1 : FVec F S4x1x224x224 .f32) (main_arg2 : FVec F S96x96x3x3 .f32) (main_arg3 : FVec F S96 .f32) : IVec S_ 1 :=
  let main_cst : FVec F S_ .f32 := constant S_ .f32 0x00000000#32
  let main_v0 : FVec F S4x1x224x224 .f32 := broadcastInDim S4x1x224x224 ![] bcast_S_S4x1x224x224 main_cst
  let main_v1 : IVec S4x1x224x224 1 := cmpf .oge main_arg1 main_v0
  let main_c : IVec S_ 1 := constantI S_ 1 1#1
  let main_v2 : IVec S_ 1 := (fun x v => Host.reduce IntOp.andi x v reducesTo_S4x1x224x224_S_d0_1_2_3 h_S_) main_v1 main_c
  main_v2
-- ==== Kernel.lean ====
abbrev S4x96x224x224 : Shape := ⟨4, ![4, 96, 224, 224]⟩
abbrev S4x1x224x224 : Shape := ⟨4, ![4, 1, 224, 224]⟩
abbrev S96x96x3x3 : Shape := ⟨4, ![96, 96, 3, 3]⟩
abbrev S96 : Shape := ⟨1, ![96]⟩
abbrev S3x3x96x96 : Shape := ⟨4, ![3, 3, 96, 96]⟩
abbrev S864x96 : Shape := ⟨2, ![864, 96]⟩
abbrev S96x1 : Shape := ⟨2, ![96, 1]⟩
abbrev S1x96x56x224 : Shape := ⟨4, ![1, 96, 56, 224]⟩
abbrev S1x96x8x224 : Shape := ⟨4, ![1, 96, 8, 224]⟩
abbrev S1x1x56x224 : Shape := ⟨4, ![1, 1, 56, 224]⟩
abbrev S1x1x8x224 : Shape := ⟨4, ![1, 1, 8, 224]⟩
abbrev S96x1x256 : Shape := ⟨3, ![96, 1, 256]⟩
abbrev S1x256 : Shape := ⟨2, ![1, 256]⟩
abbrev S96x56x224 : Shape := ⟨3, ![96, 56, 224]⟩
abbrev S96x56x1 : Shape := ⟨3, ![96, 56, 1]⟩
abbrev S96x56x225 : Shape := ⟨3, ![96, 56, 225]⟩
abbrev S96x56x31 : Shape := ⟨3, ![96, 56, 31]⟩
abbrev S96x56x256 : Shape := ⟨3, ![96, 56, 256]⟩
abbrev S1x96x1x224 : Shape := ⟨4, ![1, 96, 1, 224]⟩
abbrev S96x1x224 : Shape := ⟨3, ![96, 1, 224]⟩
abbrev S96x1x1 : Shape := ⟨3, ![96, 1, 1]⟩
abbrev S96x1x225 : Shape := ⟨3, ![96, 1, 225]⟩
abbrev S96x1x31 : Shape := ⟨3, ![96, 1, 31]⟩
abbrev S96x58x256 : Shape := ⟨3, ![96, 58, 256]⟩
abbrev S96x14848 : Shape := ⟨2, ![96, 14848]⟩
abbrev S96x14847 : Shape := ⟨2, ![96, 14847]⟩
abbrev S96x14846 : Shape := ⟨2, ![96, 14846]⟩
abbrev S96x2 : Shape := ⟨2, ![96, 2]⟩
abbrev S288x14848 : Shape := ⟨2, ![288, 14848]⟩
abbrev S288x14336 : Shape := ⟨2, ![288, 14336]⟩
abbrev S864x14336 : Shape := ⟨2, ![864, 14336]⟩
abbrev S96x14336 : Shape := ⟨2, ![96, 14336]⟩
abbrev S56x224 : Shape := ⟨2, ![56, 224]⟩
abbrev S56x1 : Shape := ⟨2, ![56, 1]⟩
abbrev S56x225 : Shape := ⟨2, ![56, 225]⟩
abbrev S56x31 : Shape := ⟨2, ![56, 31]⟩
abbrev S56x256 : Shape := ⟨2, ![56, 256]⟩
abbrev S1x1x1x224 : Shape := ⟨4, ![1, 1, 1, 224]⟩
abbrev S1x224 : Shape := ⟨2, ![1, 224]⟩
abbrev S1x1 : Shape := ⟨2, ![1, 1]⟩
abbrev S1x225 : Shape := ⟨2, ![1, 225]⟩
abbrev S1x31 : Shape := ⟨2, ![1, 31]⟩
abbrev S58x256 : Shape := ⟨2, ![58, 256]⟩
abbrev S58x255 : Shape := ⟨2, ![58, 255]⟩
abbrev S58x1 : Shape := ⟨2, ![58, 1]⟩
abbrev S58x254 : Shape := ⟨2, ![58, 254]⟩
abbrev S58x2 : Shape := ⟨2, ![58, 2]⟩
abbrev S1x56x256 : Shape := ⟨3, ![1, 56, 256]⟩

abbrev nBuf : Space → Nat
  | .hbm => 9
  | .vmem => 14
  | .smem => 0
  | _ => 0

abbrev bufTy : (tb : Table) → Fin (tcTables nBuf tb) → BufTy
  | .hbm, ⟨0, _⟩ => ⟨S4x96x224x224, .f32⟩
  | .hbm, ⟨1, _⟩ => ⟨S4x1x224x224, .f32⟩
  | .hbm, ⟨2, _⟩ => ⟨S96x96x3x3, .f32⟩
  | .hbm, ⟨3, _⟩ => ⟨S96, .f32⟩
  | .hbm, ⟨4, _⟩ => ⟨S3x3x96x96, .f32⟩
  | .hbm, ⟨5, _⟩ => ⟨S864x96, .f32⟩
  | .hbm, ⟨6, _⟩ => ⟨S864x96, .bf16⟩
  | .hbm, ⟨7, _⟩ => ⟨S96x1, .f32⟩
  | .hbm, ⟨8, _⟩ => ⟨S4x96x224x224, .f32⟩
  | .local _ .vmem, ⟨0, _⟩ => ⟨S1x96x56x224, .f32⟩
  | .local _ .vmem, ⟨1, _⟩ => ⟨S1x96x56x224, .f32⟩
  | .local _ .vmem, ⟨2, _⟩ => ⟨S1x96x8x224, .f32⟩
  | .local _ .vmem, ⟨3, _⟩ => ⟨S1x96x8x224, .f32⟩
  | .local _ .vmem, ⟨4, _⟩ => ⟨S1x1x56x224, .f32⟩
  | .local _ .vmem, ⟨5, _⟩ => ⟨S1x1x56x224, .f32⟩
  | .local _ .vmem, ⟨6, _⟩ => ⟨S1x1x8x224, .f32⟩
  | .local _ .vmem, ⟨7, _⟩ => ⟨S1x1x8x224, .f32⟩
  | .local _ .vmem, ⟨8, _⟩ => ⟨S864x96, .bf16⟩
  | .local _ .vmem, ⟨9, _⟩ => ⟨S96x1, .f32⟩
  | .local _ .vmem, ⟨10, _⟩ => ⟨S1x96x56x224, .f32⟩
  | .local _ .vmem, ⟨11, _⟩ => ⟨S1x96x56x224, .f32⟩
  | .local _ .vmem, ⟨12, _⟩ => ⟨S96x1x256, .bf16⟩
  | .local _ .vmem, ⟨13, _⟩ => ⟨S1x256, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.muli c7_i32 arg1
  let c7_i32_0 : BitVec 32 := 7#32
  let v1 : BitVec 32 := Scalar.addi v0 c7_i32_0
  let c27_i32 : BitVec 32 := 27#32
  let v2 : BitVec 32 := Scalar.minsi v1 c27_i32
  let c0_i32 : BitVec 32 := 0#32
  let c0_i32_1 : BitVec 32 := 0#32
  let c0_i32_2 : BitVec 32 := 0#32
  ![arg0.toNat, c0_i32.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.muli c7_i32 arg1
  let c7_i32_0 : BitVec 32 := 7#32
  let v1 : BitVec 32 := Scalar.addi v0 c7_i32_0
  let c27_i32 : BitVec 32 := 27#32
  let v2 : BitVec 32 := Scalar.minsi v1 c27_i32
  let c0_i32 : BitVec 32 := 0#32
  let c0_i32_1 : BitVec 32 := 0#32
  let c0_i32_2 : BitVec 32 := 0#32
  ![arg0.toNat, c0_i32.toNat, v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x8x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x56x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S864x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x96x56x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x96x224x224 : Shape := ⟨4, ![4, 96, 224, 224]⟩
abbrev S4x1x224x224 : Shape := ⟨4, ![4, 1, 224, 224]⟩
abbrev S96x96x3x3 : Shape := ⟨4, ![96, 96, 3, 3]⟩
abbrev S96 : Shape := ⟨1, ![96]⟩
abbrev S_ : Shape := ⟨0, ![]⟩
abbrev S4x96x226x226 : Shape := ⟨4, ![4, 96, 226, 226]⟩
abbrev S96x96x1x1 : Shape := ⟨4, ![96, 96, 1, 1]⟩
abbrev S96x96 : Shape := ⟨2, ![96, 96]⟩
abbrev S96x4x224x224 : Shape := ⟨4, ![96, 4, 224, 224]⟩
abbrev S1x96x1x1 : Shape := ⟨4, ![1, 96, 1, 1]⟩
abbrev S4x1x226x226 : Shape := ⟨4, ![4, 1, 226, 226]⟩

abbrev nBuf : Space → Nat
  | .hbm => 100
  | .vmem => 0
  | .smem => 0
  | _ => 0

abbrev bufTy : (tb : Table) → Fin (tcTables nBuf tb) → BufTy
  | .hbm, ⟨0, _⟩ => ⟨S4x96x224x224, .f32⟩
  | .hbm, ⟨1, _⟩ => ⟨S4x1x224x224, .f32⟩
  | .hbm, ⟨2, _⟩ => ⟨S96x96x3x3, .f32⟩
  | .hbm, ⟨3, _⟩ => ⟨S96, .f32⟩
  | .hbm, ⟨4, _⟩ => ⟨S_, .i32⟩
  | .hbm, ⟨5, _⟩ => ⟨S_, .f32⟩
  | .hbm, ⟨6, _⟩ => ⟨S4x96x226x226, .f32⟩
  | .hbm, ⟨7, _⟩ => ⟨S4x96x224x224, .f32⟩
  | .hbm, ⟨8, _⟩ => ⟨S96x96x1x1, .f32⟩
  | .hbm, ⟨9, _⟩ => ⟨S96x96, .f32⟩
  | .hbm, ⟨10, _⟩ => ⟨S96x4x224x224, .f32⟩
  | .hbm, ⟨11, _⟩ => ⟨S4x96x224x224, .f32⟩
  | .hbm, ⟨12, _⟩ => ⟨S_, .f32⟩
  | .hbm, ⟨13, _⟩ => ⟨S4x96x224x224, .f32⟩
  | .hbm, ⟨14, _⟩ => ⟨S4x96x224x224, .f32⟩
  | .hbm, ⟨15, _⟩ => ⟨S4x96x224x224, .f32⟩
  | .hbm, ⟨16, _⟩ => ⟨S96x96x1x1, .f32⟩
  | .hbm, ⟨17, _⟩ => ⟨S96x96, .f32⟩
  | .hbm, ⟨18, _⟩ => ⟨S96x4x224x224, .f32⟩
  | .hbm, ⟨19, _⟩ => ⟨S4x96x224x224, .f32⟩
  | .hbm, ⟨20, _⟩ => ⟨S4x96x224x224, .f32⟩
  | .hbm, ⟨21, _⟩ => ⟨S4x96x224x224, .f32⟩
  | .hbm, ⟨22, _⟩ => ⟨S96x96x1x1, .f32⟩
  | .hbm, ⟨23, _⟩ => ⟨S96x96, .f32⟩
  | .hbm, ⟨24, _⟩ => ⟨S96x4x224x224, .f32⟩
  | .hbm, ⟨25, _⟩ => ⟨S4x96x224x224, .f32⟩
  | .hbm, ⟨26, _⟩ => ⟨S4x96x224x224, .f32⟩
  | .hbm, ⟨27, _⟩ => ⟨S4x96x224x224, .f32⟩
  | .hbm, ⟨28, _⟩ => ⟨S96x96x1x1, .f32⟩
  | .hbm, ⟨29, _⟩ => ⟨S96x96, .f32⟩
  | .hbm, ⟨30, _⟩ => ⟨S96x4x224x224, .f32⟩
  | .hbm, ⟨31, _⟩ => ⟨S4x96x224x224, .f32⟩
  | .hbm, ⟨32, _⟩ => ⟨S4x96x224x224, .f32⟩
  | .hbm, ⟨33, _⟩ => ⟨S4x96x224x224, .f32⟩
  | .hbm, ⟨34, _⟩ => ⟨S96x96x1x1, .f32⟩
  | .hbm, ⟨35, _⟩ => ⟨S96x96, .f32⟩
  | .hbm, ⟨36, _⟩ => ⟨S96x4x224x224, .f32⟩
  | .hbm, ⟨37, _⟩ => ⟨S4x96x224x224, .f32⟩
  | .hbm, ⟨38, _⟩ => ⟨S4x96x224x224, .f32⟩
  | .hbm, ⟨39, _⟩ => ⟨S4x96x224x224, .f32⟩
  | .hbm, ⟨40, _⟩ => ⟨S96x96x1x1, .f32⟩
  | .hbm, ⟨41, _⟩ => ⟨S96x96, .f32⟩
  | .hbm, ⟨42, _⟩ => ⟨S96x4x224x224, .f32⟩
  | .hbm, ⟨43, _⟩ => ⟨S4x96x224x224, .f32⟩
  | .hbm, ⟨44, _⟩ => ⟨S4x96x224x224, .f32⟩
  | .hbm, ⟨45, _⟩ => ⟨S4x96x224x224, .f32⟩
  | .hbm, ⟨46, _⟩ => ⟨S96x96x1x1, .f32⟩
  | .hbm, ⟨47, _⟩ => ⟨S96x96, .f32⟩
  | .hbm, ⟨48, _⟩ => ⟨S96x4x224x224, .f32⟩
  | .hbm, ⟨49, _⟩ => ⟨S4x96x224x224, .f32⟩
  | .hbm, ⟨50, _⟩ => ⟨S4x96x224x224, .f32⟩
  | .hbm, ⟨51, _⟩ => ⟨S4x96x224x224, .f32⟩
  | .hbm, ⟨52, _⟩ => ⟨S96x96x1x1, .f32⟩
  | .hbm, ⟨53, _⟩ => ⟨S96x96, .f32⟩
  | .hbm, ⟨54, _⟩ => ⟨S96x4x224x224, .f32⟩
  | .hbm, ⟨55, _⟩ => ⟨S4x96x224x224, .f32⟩
  | .hbm, ⟨56, _⟩ => ⟨S4x96x224x224, .f32⟩
  | .hbm, ⟨57, _⟩ => ⟨S4x96x224x224, .f32⟩
  | .hbm, ⟨58, _⟩ => ⟨S96x96x1x1, .f32⟩
  | .hbm, ⟨59, _⟩ => ⟨S96x96, .f32⟩
  | .hbm, ⟨60, _⟩ => ⟨S96x4x224x224, .f32⟩
  | .hbm, ⟨61, _⟩ => ⟨S4x96x224x224, .f32⟩
  | .hbm, ⟨62, _⟩ => ⟨S4x96x224x224, .f32⟩
  | .hbm, ⟨63, _⟩ => ⟨S1x96x1x1, .f32⟩
  | .hbm, ⟨64, _⟩ => ⟨S4x96x224x224, .f32⟩
  | .hbm, ⟨65, _⟩ => ⟨S4x96x224x224, .f32⟩
  | .hbm, ⟨66, _⟩ => ⟨S_, .f32⟩
  | .hbm, ⟨67, _⟩ => ⟨S4x1x224x224, .f32⟩
  | .hbm, ⟨68, _⟩ => ⟨S4x1x224x224, .i1⟩
  | .hbm, ⟨69, _⟩ => ⟨S4x1x224x224, .f32⟩
  | .hbm, ⟨70, _⟩ => ⟨S_, .i32⟩
  | .hbm, ⟨71, _⟩ => ⟨S_, .f32⟩
  | .hbm, ⟨72, _⟩ => ⟨S4x1x226x226, .f32⟩
  | .hbm, ⟨73, _⟩ => ⟨S4x1x224x224, .f32⟩
  | .hbm, ⟨74, _⟩ => ⟨S_, .f32⟩
  | .hbm, ⟨75, _⟩ => ⟨S4x1x224x224, .f32⟩
  | .hbm, ⟨76, _⟩ => ⟨S4x1x224x224, .f32⟩
  | .hbm, ⟨77, _⟩ => ⟨S4x1x224x224, .f32⟩
  | .hbm, ⟨78, _⟩ => ⟨S4x1x224x224, .f32⟩
  | .hbm, ⟨79, _⟩ => ⟨S4x1x224x224, .f32⟩
  | .hbm, ⟨80, _⟩ => ⟨S4x1x224x224, .f32⟩
  | .hbm, ⟨81, _⟩ => ⟨S4x1x224x224, .f32⟩
  | .hbm, ⟨82, _⟩ => ⟨S4x1x224x224, .f32⟩
  | .hbm, ⟨83, _⟩ => ⟨S4x1x224x224, .f32⟩
  | .hbm, ⟨84, _⟩ => ⟨S4x1x224x224, .f32⟩
  | .hbm, ⟨85, _⟩ => ⟨S4x1x224x224, .f32⟩
  | .hbm, ⟨86, _⟩ => ⟨S4x1x224x224, .f32⟩
  | .hbm, ⟨87, _⟩ => ⟨S4x1x224x224, .f32⟩
  | .hbm, ⟨88, _⟩ => ⟨S4x1x224x224, .f32⟩
  | .hbm, ⟨89, _⟩ => ⟨S4x1x224x224, .f32⟩
  | .hbm, ⟨90, _⟩ => ⟨S4x1x224x224, .f32⟩
  | .hbm, ⟨91, _⟩ => ⟨S4x1x224x224, .f32⟩
  | .hbm, ⟨92, _⟩ => ⟨S4x1x224x224, .f32⟩
  | .hbm, ⟨93, _⟩ => ⟨S_, .f32⟩
  | .hbm, ⟨94, _⟩ => ⟨S4x1x224x224, .f32⟩
  | .hbm, ⟨95, _⟩ => ⟨S4x1x224x224, .i1⟩
  | .hbm, ⟨96, _⟩ => ⟨S_, .f32⟩
  | .hbm, ⟨97, _⟩ => ⟨S4x96x224x224, .f32⟩
  | .hbm, ⟨98, _⟩ => ⟨S4x96x224x224, .i1⟩
  | .hbm, ⟨99, _⟩ => ⟨S4x96x224x224, .f32⟩
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_0 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_c_1 : Ref sig .tc := ⟨.hbm, 70, rfl⟩
abbrev main_call1_v0 : Ref sig .tc := ⟨.hbm, 71, rfl⟩
abbrev main_v62 : Ref sig .tc := ⟨.hbm, 72, rfl⟩
abbrev main_v63 : Ref sig .tc := ⟨.hbm, 73, rfl⟩
abbrev main_cst_2 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_3 : Ref sig .tc := ⟨.hbm, 93, rfl⟩
abbrev main_v82 : Ref sig .tc := ⟨.hbm, 94, rfl⟩
abbrev main_v83 : Ref sig .tc := ⟨.hbm, 95, rfl⟩
abbrev main_cst_4 : Ref sig .tc := ⟨.hbm, 96, rfl⟩
abbrev main_v84 : Ref sig .tc := ⟨.hbm, 97, rfl⟩
abbrev main_call2_v0 : Ref sig .tc := ⟨.hbm, 98, rfl⟩
abbrev main_v85 : Ref sig .tc := ⟨.hbm, 99, rfl⟩

abbrev nD : Nat := 1
abbrev τ : Topo := Topo.v7x

variable {F : FTy → Type} [FloatOps F]
-- ==== Proof.Body.lean ====
/- One grid point of the idealized kernel: from its six input blocks and the two scratch rows that the point before left,
   what the body stores in the output block and in the scratch rows. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Tactic
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- After one store of a whole buffer, it reads as what was stored. -/
theorem read_whole_store {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero (S := S) h inb y⟩),
    View.canon_unit_zero (S := S) h]

/-- The row below the block, as the body reads it: the first of the eight rows that the second window stages. -/
def row1 (x1 : Vec F S1x96x8x224 .f32) : Vec F S1x96x1x224 .f32 :=
  View.ld x1 (Rect.unit (s := S1x96x8x224) ![0, 0, 0, 0] S1x96x1x224.size inb_S1x96x8x224_S1x96x1x224_0_0_0_0)

/-- The same row of the mask. -/
def row3 (x3 : Vec F S1x1x8x224 .f32) : Vec F S1x1x1x224 .f32 :=
  View.ld x3 (Rect.unit (s := S1x1x8x224) ![0, 0, 0, 0] S1x1x1x224.size inb_S1x1x8x224_S1x1x1x224_0_0_0_0)

/-- What the body stores in the output block. -/
def outV (i : grid0.Coords) (x0 : Vec F S1x96x56x224 .f32) (x1 : Vec F S1x96x8x224 .f32) (x2 : Vec F S1x1x56x224 .f32)
    (x3 : Vec F S1x1x8x224 .f32) (x4 : Vec F S864x96 .bf16) (x5 : Vec F S96x1 .f32)
    (s0 : Vec F S96x1x256 .bf16) (s1 : Vec F S1x256 .f32) : Vec F S1x96x56x224 .f32 :=
  k0_pay1 (k0_pay6 (k0_pay4 i x0 (row1 x1) s0) (k0_pay5 i x0 (row1 x1) s0) x4 x5)
    (k0_pay8 (BitVec.ofNat 32 (i 1).val) x2 (row3 x3) s1)

set_option maxHeartbeats 1000000 in
/-- The body's triple: the inputs stay, the output block ends at `outV`, the scratch rows at the last rows of the
    padded input block and of the padded mask block. -/
theorem kernelRun (c : Dev nD) (i : grid0.Coords) (arg2 : Memref sig .tc .vmem S1x96x56x224 .f32) (harg2 : arg2.IsWhole) (arg3 : Memref sig .tc .vmem S1x96x8x224 .f32) (harg3 : arg3.IsWhole) (arg4 : Memref sig .tc .vmem S1x1x56x224 .f32) (harg4 : arg4.IsWhole) (arg5 : Memref sig .tc .vmem S1x1x8x224 .f32) (harg5 : arg5.IsWhole) (arg6 : Memref sig .tc .vmem S864x96 .bf16) (harg6 : arg6.IsWhole) (arg7 : Memref sig .tc .vmem S96x1 .f32) (harg7 : arg7.IsWhole) (arg8 : Memref sig .tc .vmem S1x96x56x224 .f32) (harg8 : arg8.IsWhole) (arg9 : Memref sig .tc .vmem S96x1x256 .bf16) (harg9 : arg9.IsWhole) (arg10 : Memref sig .tc .vmem S1x256 .f32) (harg10 : arg10.IsWhole)
    (x0 : Vec F S1x96x56x224 .f32) (x1 : Vec F S1x96x8x224 .f32) (x2 : Vec F S1x1x56x224 .f32) (x3 : Vec F S1x1x8x224 .f32) (x4 : Vec F S864x96 .bf16) (x5 : Vec F S96x1 .f32)
    (s0 : Vec F S96x1x256 .bf16) (s1 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outV i x0 x1 x2 x3 x4 x5 s0 s1) ∗ owns (c : Thread nD τ) arg9 fullShare (k0_pay3 x0) ∗ owns (c : Thread nD τ) arg10 fullShare (k0_pay9 x2)) -∗ K ⟨⟩))
      ⊢ wp frame (wpE (defs₀ (F := F)) Variants.none c none) E (cc0__conv_body i arg2 harg2 arg3 harg3 arg4 harg4 arg5 harg5 arg6 harg6 arg7 harg7 arg8 harg8 arg9 harg9 arg10 harg10) K := by
    simp only [cc0__conv_body_eq_skeleton]; unfold cc0__conv_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hs0; obtain rfl := harg10.eq_unread hs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_whole_store (S := S1x96x56x224) _ _ hz4 _ _).trans ?_
      sl_unfold_words
      simp only [View.readAt_eq_ld, harg2.read_unread, harg3.read_unread, harg4.read_unread, harg5.read_unread, harg6.read_unread, harg7.read_unread, harg9.read_unread, harg10.read_unread, View.ld_unit_zero (S := S1x96x56x224) hz4, View.ld_unit_zero (S := S1x1x56x224) hz4, View.ld_unit_zero (S := S864x96) hz2, View.ld_unit_zero (S := S96x1) hz2, View.ld_unit_zero (S := S96x1x256) hz3, View.ld_unit_zero (S := S1x256) hz2]
      try rfl
    isplitl [HS0]
    · iexists _; isplitr; swap; · iexact HS0
      ipureintro
      refine (read_whole_store (S := S96x1x256) _ _ hz3 _ _).trans ?_
      sl_unfold_words
      simp only [View.readAt_eq_ld, harg2.read_unread, harg3.read_unread, harg4.read_unread, harg5.read_unread, harg6.read_unread, harg7.read_unread, harg9.read_unread, harg10.read_unread, View.ld_unit_zero (S := S1x96x56x224) hz4, View.ld_unit_zero (S := S1x1x56x224) hz4, View.ld_unit_zero (S := S864x96) hz2, View.ld_unit_zero (S := S96x1) hz2, View.ld_unit_zero (S := S96x1x256) hz3, View.ld_unit_zero (S := S1x256) hz2]
      try rfl
    iexists _; isplitr; swap; · iexact HS1
    ipureintro
    refine (read_whole_store (S := S1x256) _ _ hz2 _ _).trans ?_
    sl_unfold_words
    simp only [View.readAt_eq_ld, harg2.read_unread, harg3.read_unread, harg4.read_unread, harg5.read_unread, harg6.read_unread, harg7.read_unread, harg9.read_unread, harg10.read_unread, View.ld_unit_zero (S := S1x96x56x224) hz4, View.ld_unit_zero (S := S1x1x56x224) hz4, View.ld_unit_zero (S := S864x96) hz2, View.ld_unit_zero (S := S96x1) hz2, View.ld_unit_zero (S := S96x1x256) hz3, View.ld_unit_zero (S := S1x256) hz2]
    try rfl

end Cert.KernelIdeal.Body

end
-- ==== Proof.Run.lean ====
/- The idealized kernel's run: what the scratch rows hold between grid points, the body at every point, the launch, and
   the output array after it. -/
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row block of an image takes nothing from the scratch rows. -/
theorem outV_first (i : grid0.Coords) (h : (i 1).val = 0) (x0 : Vec F S1x96x56x224 .f32) (x1 : Vec F S1x96x8x224 .f32)
    (x2 : Vec F S1x1x56x224 .f32) (x3 : Vec F S1x1x8x224 .f32) (x4 : Vec F S864x96 .bf16) (x5 : Vec F S96x1 .f32)
    (s0 s0' : Vec F S96x1x256 .bf16) (s1 s1' : Vec F S1x256 .f32) :
    outV i x0 x1 x2 x3 x4 x5 s0 s1 = outV i x0 x1 x2 x3 x4 x5 s0' s1' := by
  have e : Scalar.cmpi .eq (BitVec.ofNat 32 (i 1).val) 0#32 = 1#1 := by rw [h]; rfl
  unfold outV k0_pay5 k0_pay4 k0_pay8
  dsimp only
  rw [e]
  rfl

/-- The point before `t` (at the first point, that point itself, where nothing reads it). -/
def prev (t : Fin cfg0.N) : Fin cfg0.N := ⟨t.val - 1, lt_of_le_of_lt (Nat.sub_le _ _) t.isLt⟩

/-- What point `t` stores in the output block. -/
def outT (c : Dev nD) (t : Fin cfg0.N) : Vec F S1x96x56x224 .f32 :=
  outV (grid0.coords t) (iblk m c 0 t) (iblk m c 1 t) (iblk m c 2 t) (iblk m c 3 t) (iblk m c 4 t) (iblk m c 5 t)
    (k0_pay3 (iblk m c 0 (prev t))) (k0_pay9 (iblk m c 2 (prev t)))

/-- Before point `s` the scratch rows hold the last rows of the blocks of point `s - 1`, if there is such a point. -/
def carried (c : Dev nD) (s : Fin (cfg0.N + 1)) (d0 : Vec F S96x1x256 .bf16) (d1 : Vec F S1x256 .f32) : Prop :=
  ∀ t : Fin cfg0.N, t.val + 1 = s.val → d0 = k0_pay3 (iblk m c 0 t) ∧ d1 = k0_pay9 (iblk m c 2 t)

/-- The scratch rows between the points. -/
def scr (c : Dev nD) (s : Fin (cfg0.N + 1)) : sProp 𝕄 :=
  iprop(∃ d0, ∃ d1, ⌜carried m c s d0 d1⌝ ∗ owns (c : Thread nD τ) (Memref.whole cc0_scratch0) fullShare d0
    ∗ owns (c : Thread nD τ) (Memref.whole cc0_scratch1) fullShare d1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outT m c t
  Φ s := iprop(scr m c s ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outT m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The second coordinate of the first point is 0. -/
theorem coord_first : ∀ t : Fin cfg0.N, t.val = 0 → (grid0.coords t 1).val = 0 :=
  (by decide +kernel : ∀ t : Fin grid0.N, t.val = 0 → (grid0.coords t 1).val = 0)

/-- Whatever the scratch rows hold before point `t` as `carried` says, the point stores `outT`. -/
theorem outV_carried (c : Dev nD) (t : Fin cfg0.N) (d0 : Vec F S96x1x256 .bf16) (d1 : Vec F S1x256 .f32)
    (h : carried m c t.castSucc d0 d1) :
    outV (grid0.coords t) (iblk m c 0 t) (iblk m c 1 t) (iblk m c 2 t) (iblk m c 3 t) (iblk m c 4 t) (iblk m c 5 t) d0 d1
      = outT m c t := by
  unfold outT
  by_cases ht : t.val = 0
  · exact outV_first _ (coord_first t ht) _ _ _ _ _ _ _ _ _ _
  · obtain ⟨h0, h1⟩ := h (prev t) (by
      show t.val - 1 + 1 = t.val
      omega)
    rw [h0, h1]

theorem carried_succ (c : Dev nD) (t : Fin cfg0.N) :
    carried m c t.succ (k0_pay3 (iblk m c 0 t)) (k0_pay9 (iblk m c 2 t)) := by
  intro t' h
  have : t' = t := Fin.ext (by simpa using h)
  subst this; exact ⟨rfl, rfl⟩

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.castSucc = iprop(scr m c t.castSucc ∗ (∃ r, prngReg c r)) from rfl,
    show (dats m 0 c).Φ t.succ = iprop(scr m c t.succ ∗ (∃ r, prngReg c r)) from rfl]
  unfold scr
  iintro ⟨⟨⟨%e0, %e1, %hc, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun c (grid0.coords t) _ _ _ _ _ _ _ _ _ _ _ _ _ _ _ _ _ _ (iblk m c 0 t) (iblk m c 1 t) (iblk m c 2 t) (iblk m c 3 t) (iblk m c 4 t) (iblk m c 5 t) e0 e1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  rw [outV_carried m c t e0 e1 hc]
  iintro ⟨H0, H1, H2, H3, H4, H5, H6, HS0, HS1⟩
  isplitl [HS0 HS1 Hg]
  · isplitl [HS0 HS1]
    · iexists _, _
      isplitr
      · ipureintro; exact carried_succ m c t
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives the scratch rows: some contents each. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

theorem phi_in (c : Dev nD) : (Pipeline.ΦA spec0 c : sProp 𝕄) ⊢ (dats m 0 c).Φ 0 := by
  rw [PhiA_eq, show (dats m 0 c).Φ 0 = iprop(scr m c 0 ∗ (∃ r, prngReg c r)) from rfl]
  unfold scr
  iintro ⟨⟨⟨%d0, H0⟩, ⟨%d1, H1⟩⟩, Hg⟩
  isplitl [H0 H1]
  · iexists d0, d1
    isplitr
    · ipureintro; intro t h; exact absurd h (Nat.succ_ne_zero _)
    isplitl [H0]
    · iexact H0
    iexact H1
  iexact Hg

theorem phi_out (c : Dev nD) : (dats m 0 c).Φ (Fin.last cfg0.N) ⊢ (Pipeline.ΦA spec0 c : sProp 𝕄) := by
  rw [PhiA_eq, show (dats m 0 c).Φ (Fin.last cfg0.N) = iprop(scr m c (Fin.last cfg0.N) ∗ (∃ r, prngReg c r)) from rfl]
  unfold scr
  iintro ⟨⟨%d0, %d1, -, H0, H1⟩, Hg⟩
  isplitl [H0 H1]
  · isplitl [H0]
    · iexists d0; iexact H0
    iexists d1; iexact H1
  iexact Hg

set_option backward.isDefEq.respectTransparency.types false in
/-- The launch: every final state has the arrays as `dats` says, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := phi_in m) (hout := phi_out m) (Q' := _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and the counters end at zero. -/
theorem frame_zero : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The result array after the run, beside the unchanged arguments. -/
theorem run_out : θ_run defs (onTc (τ := τ) (main (F := F))) ⟨m, fun _ => 0, ρ⟩ (fun r => ∀ c : Dev nD,
      r.2.mem ((c.tc : Thread nD τ).loc main_v4) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 6, h.2 c⟩) (θ_run_and (run_main m ρ) (unchanged m ρ))

end Cert.KernelIdeal.Body

end
-- ==== Proof.Same.lean ====
/- The kernel and its idealization are one program text printed twice, so the run proved of the second, at any float
   values, is the run of the first. -/
module

public import proofs.«01_k».proof.Proof.Run
public import proofs.«01_k».proof.Proof.Gen.Kernel.Frame

@[expose] public section

set_option maxRecDepth 65536

namespace Cert.Kernel.Same

open Idealize.ShloMosaic Idealize.SL.Sem

variable {F : FTy → Type} [FloatOps F]

theorem main_eq : Cert.Kernel.main (F := F) = Cert.KernelIdeal.main (F := F) := rfl

theorem defs₀_eq : Cert.Kernel.defs₀ (F := F) = Cert.KernelIdeal.defs₀ (F := F) := by
  unfold Cert.Kernel.defs₀ Cert.KernelIdeal.defs₀
  refine congrArg _ ?_
  funext l a
  match l, a with
  | ⟨0, _⟩, (t, s) => rfl

theorem defs_eq : Cert.Kernel.defs (F := F) = Cert.KernelIdeal.defs (F := F) := by
  unfold Cert.Kernel.defs Cert.KernelIdeal.defs
  exact congrArg (Pipeline.defs _) defs₀_eq

/-- The kernel ends with its arguments unchanged and the counters at zero. -/
theorem frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  have h := Cert.KernelIdeal.Body.frame_zero (F := F) m ρ
  rw [← defs_eq] at h
  exact h

end Cert.Kernel.Same

end
-- ==== Proof.Taps.lean ====
/- The masked 3 × 3 convolution written out over the extended reals: the image with a border of zeros, the nine taps
   summed over the input channels, and the sum of the mask over a 3 × 3 window. Both programs are read to these. -/
module

public import Idealize.ShloMosaic.Lib.Pointwise

@[expose] public section

noncomputable section

namespace Cert.Taps

open Idealize.ShloMosaic

/-- A row with one zero before it and zeros after it: position `s` holds entry `s - 1`. -/
def pad1 (g : Fin 224 → EReal) (s : ℕ) : EReal :=
  if h : 1 ≤ s ∧ s ≤ 224 then g ⟨s - 1, by omega⟩ else 0

/-- A plane with a border of zeros: row `r` of it is row `r - 1` of the plane. -/
def pad2 (f : Fin 224 → Fin 224 → EReal) (r s : ℕ) : EReal :=
  if h : 1 ≤ r ∧ r ≤ 224 then pad1 (f ⟨r - 1, by omega⟩) s else 0

theorem pad1_in (g : Fin 224 → EReal) (s : ℕ) (S : Fin 224) (h : S.val + 1 = s) : pad1 g s = g S := by
  have hS := S.isLt
  unfold pad1
  rw [dif_pos (by omega)]
  exact congrArg g (Fin.ext (by simp only; omega))

theorem pad1_out (g : Fin 224 → EReal) (s : ℕ) (h : ¬ (1 ≤ s ∧ s ≤ 224)) : pad1 g s = 0 := dif_neg h

theorem pad2_in (f : Fin 224 → Fin 224 → EReal) (r s : ℕ) (R : Fin 224) (h : R.val + 1 = r) :
    pad2 f r s = pad1 (f R) s := by
  have hR := R.isLt
  unfold pad2
  rw [dif_pos (by omega)]
  exact congrArg (fun q => pad1 (f q) s) (Fin.ext (by simp only; omega))

theorem pad2_out (f : Fin 224 → Fin 224 → EReal) (r s : ℕ) (h : ¬ (1 ≤ r ∧ r ≤ 224)) : pad2 f r s = 0 := dif_neg h

theorem pad2_all (f : Fin 224 → Fin 224 → EReal) (r s : ℕ) :
    pad2 f r s = if h : (1 ≤ r ∧ r ≤ 224) ∧ (1 ≤ s ∧ s ≤ 224) then f ⟨r - 1, by omega⟩ ⟨s - 1, by omega⟩ else 0 := by
  unfold pad2 pad1
  by_cases h1 : 1 ≤ r ∧ r ≤ 224 <;> by_cases h2 : 1 ≤ s ∧ s ≤ 224 <;> simp [h1, h2]

/-- Nine summands in a row are the sum over `Fin 9`. -/
theorem sum_nine (f : Fin 9 → EReal) :
    ∑ j, f j = f 0 + f 1 + f 2 + f 3 + f 4 + f 5 + f 6 + f 7 + f 8 := by
  rw [Fin.sum_univ_castSucc, Fin.sum_univ_eight]; rfl

/-- A sum over 864 channels is nine sums over 96. -/
theorem sum_864 (f : Fin 864 → EReal) :
    ∑ k, f k = ∑ j : Fin 9, ∑ c : Fin 96, f ⟨96 * j.val + c.val, by omega⟩ := by
  rw [← Fintype.sum_prod_type' (f := fun (j : Fin 9) (c : Fin 96) => f ⟨96 * j.val + c.val, by omega⟩)]
  refine (Fintype.sum_equiv (finProdFinEquiv (m := 9) (n := 96)) _ (fun k : Fin (9 * 96) => f k) fun p => ?_).symm
  refine congrArg f (Fin.ext ?_)
  show 96 * p.1.val + p.2.val = p.2.val + 96 * p.1.val
  omega

/-- The row and the column of tap `j`. -/
def ty (j : Fin 9) : Fin 3 := ⟨j.val / 3, by omega⟩
def tx (j : Fin 9) : Fin 3 := ⟨j.val % 3, by omega⟩

abbrev SX : Shape := ⟨4, ![4, 96, 224, 224]⟩
abbrev SM : Shape := ⟨4, ![4, 1, 224, 224]⟩
abbrev SW : Shape := ⟨4, ![96, 96, 3, 3]⟩
abbrev SB : Shape := ⟨1, ![96]⟩

/-- Channel `c` of image `b`. -/
def plane (X : SX.Idx → EReal) (b : Fin 4) (c : Fin 96) : Fin 224 → Fin 224 → EReal := fun y x => X (ix4 b c y x)
def mplane (M : SM.Idx → EReal) (b : Fin 4) : Fin 224 → Fin 224 → EReal := fun y x => M (ix4 b 0 y x)

/-- One tap of the convolution at output channel `o` and position `(y, x)`. -/
def tap (P : Fin 96 → Fin 224 → Fin 224 → EReal) (W : SW.Idx → EReal) (o : Fin 96) (y x : ℕ) (j : Fin 9) : EReal :=
  ∑ c : Fin 96, W (ix4 o c (ty j) (tx j)) * pad2 (P c) (y + (ty j).val) (x + (tx j).val)

/-- The mask summed over the window around `(y, x)`. -/
def wsum (M : Fin 224 → Fin 224 → EReal) (y x : ℕ) : EReal :=
  ∑ j : Fin 9, pad2 M (y + (ty j).val) (x + (tx j).val)

theorem wsum_nine (M : Fin 224 → Fin 224 → EReal) (y x : ℕ) : wsum M y x =
    pad2 M y x + pad2 M y (x + 1) + pad2 M y (x + 2) + pad2 M (y + 1) x + pad2 M (y + 1) (x + 1) + pad2 M (y + 1) (x + 2)
      + pad2 M (y + 2) x + pad2 M (y + 2) (x + 1) + pad2 M (y + 2) (x + 2) := sum_nine _

/-- The result at one place: the convolution plus the bias where the window sum is positive, else zero. -/
def cell (P : Fin 96 → Fin 224 → Fin 224 → EReal) (M : Fin 224 → Fin 224 → EReal) (W : SW.Idx → EReal) (B : SB.Idx → EReal)
    (o : Fin 96) (y x : ℕ) : EReal :=
  if 0 < wsum M y x then (∑ j : Fin 9, tap P W o y x j) + B (ix1 o) else 0

/-- The whole result. -/
def conv (X : SX.Idx → EReal) (M : SM.Idx → EReal) (W : SW.Idx → EReal) (B : SB.Idx → EReal) : SX.Idx → EReal :=
  fun i => cell (plane X (i 0)) (mplane M (i 0)) W B (i 1) (i 2).val (i 3).val

end Cert.Taps

end
-- ==== Proof.Pay.lean ====
/- What one grid point stores, over the extended reals: given what its blocks hold of the image, of the mask, of the
   weights and of the bias, the stored block is the convolution at the block's rows. -/
module

public import proofs.«01_k».proof.Proof.Body
public import proofs.«01_k».proof.Proof.Taps

@[expose] public section

set_option maxRecDepth 16384

noncomputable section

namespace Cert.KernelIdeal.Body

open Cert.KernelIdeal Cert.KernelIdeal.Gen
open Idealize.ShloMosaic
open Cert.Taps

theorem zero_word : (((0#32 : BitVec 32).toInt : ℝ) : EReal) = 0 := by simp

/-- A padded row, as the bodies of the payloads test the position. -/
theorem pad1_tests (g : Fin 224 → EReal) (s : ℕ) (hg : ∀ (h : s < 225) (h' : ¬ s < 1), s - 1 < 224) :
    (if h : s < 225 then if h' : s < 1 then (((0#32 : BitVec 32).toInt : ℝ) : EReal) else g ⟨s - 1, hg h h'⟩
      else (((0#32 : BitVec 32).toInt : ℝ) : EReal)) = pad1 g s := by
  rw [zero_word]
  unfold pad1
  split_ifs <;> first | rfl | omega

theorem pay2_apply (v0 : Vec Ideal S1x96x56x224 .f32) (c : Fin 96) (r : Fin 56) (s : Fin 256) :
    k0_pay2 (F := Ideal) v0 (ix3 c r s) = pad1 (fun x => v0 (ix4 0 c r x)) s.val := by
  unfold k0_pay2
  pointwise
  exact pad1_tests (fun x => v0 (ix4 0 c r x)) s.val _

theorem pay3_apply (v0 : Vec Ideal S1x96x56x224 .f32) (c : Fin 96) (s : Fin 256) :
    k0_pay3 (F := Ideal) v0 (ix3 c 0 s) = pad1 (fun x => v0 (ix4 0 c 55 x)) s.val := by
  unfold k0_pay3
  pointwise
  exact pay2_apply v0 c 55 s

theorem pay7_apply (v0 : Vec Ideal S1x1x56x224 .f32) (r : Fin 56) (s : Fin 256) :
    k0_pay7 (F := Ideal) v0 (ix2 r s) = pad1 (fun x => v0 (ix4 0 0 r x)) s.val := by
  unfold k0_pay7
  pointwise
  exact pad1_tests (fun x => v0 (ix4 0 0 r x)) s.val _

theorem pay9_apply (v0 : Vec Ideal S1x1x56x224 .f32) (s : Fin 256) :
    k0_pay9 (F := Ideal) v0 (ix2 0 s) = pad1 (fun x => v0 (ix4 0 0 55 x)) s.val := by
  unfold k0_pay9
  pointwise
  exact pay7_apply v0 55 s

theorem row1_apply (x1 : Vec Ideal S1x96x8x224 .f32) (c : Fin 96) (s : Fin 224) :
    row1 x1 (ix4 0 c 0 s) = x1 (ix4 0 c 0 s) := by
  unfold row1
  pointwise

theorem row3_apply (x3 : Vec Ideal S1x1x8x224 .f32) (s : Fin 224) :
    row3 x3 (ix4 0 0 0 s) = x3 (ix4 0 0 0 s) := by
  unfold row3
  pointwise

/-- The block of the image with the row above it and the row below it, every row 256 long. -/
def xblk (a : BitVec 32) (v0 : Vec Ideal S1x96x56x224 .f32) (v8 : Vec Ideal S1x96x1x224 .f32)
    (v21 : Vec Ideal S96x1x256 .bf16) : FVec Ideal S96x58x256 .bf16 :=
  have z : Ideal .bf16 := Scalar.sitofp .bf16 0#32
  have zrow : FVec Ideal S96x1x256 .bf16 := broadcast S96x1x256 (Scalar.ofBits .bf16 0x0000#16)
  have body : FVec Ideal S96x1x224 .bf16 :=
    truncf .bf16 (shapeCast S96x1x224 v8 shapeCasts_S1x96x1x224_S96x1x224) bitsLt_bf16_f32
  have left : FVec Ideal S96x1x225 .bf16 :=
    concatenate S96x1x225 2 [⟨S96x1x1, broadcast S96x1x1 z⟩, ⟨S96x1x224, body⟩] concatenates_S96x1x1_S96x1x224_S96x1x225_d2
  have below : FVec Ideal S96x1x256 .bf16 :=
    concatenate S96x1x256 2 [⟨S96x1x225, left⟩, ⟨S96x1x31, broadcast S96x1x31 z⟩] concatenates_S96x1x225_S96x1x31_S96x1x256_d2
  concatenate S96x58x256 1
    [⟨S96x1x256, Scalar.select (Scalar.cmpi .eq a 0#32) zrow v21⟩, ⟨S96x56x256, k0_pay2 v0⟩,
      ⟨S96x1x256, Scalar.select (Scalar.cmpi .eq a 3#32) zrow below⟩]
    concatenates_S96x1x256_S96x56x256_S96x1x256_S96x58x256_d1

/-- The three horizontal shifts of the flattened block, one above the other along the channels. -/
def shifts (v : FVec Ideal S96x14848 .bf16) : FVec Ideal S288x14848 .bf16 :=
  have one : FVec Ideal S96x14848 .bf16 := concatenate S96x14848 1
    [⟨S96x14847, extractStridedSlice S96x14847 ![0, 1] v slices_S96x14848_o0_1_S96x14847⟩,
      ⟨S96x1, extractStridedSlice S96x1 ![0, 0] v slices_S96x14848_o0_0_S96x1⟩] concatenates_S96x14847_S96x1_S96x14848_d1
  have two : FVec Ideal S96x14848 .bf16 := concatenate S96x14848 1
    [⟨S96x14846, extractStridedSlice S96x14846 ![0, 2] v slices_S96x14848_o0_2_S96x14846⟩,
      ⟨S96x2, extractStridedSlice S96x2 ![0, 0] v slices_S96x14848_o0_0_S96x2⟩] concatenates_S96x14846_S96x2_S96x14848_d1
  concatenate S288x14848 0 [⟨S96x14848, v⟩, ⟨S96x14848, one⟩, ⟨S96x14848, two⟩]
    concatenates_S96x14848_S96x14848_S96x14848_S288x14848_d0

def flat (v : FVec Ideal S96x58x256 .bf16) : FVec Ideal S96x14848 .bf16 :=
  shapeCast S96x14848 v shapeCasts_S96x58x256_S96x14848

theorem pay4_eq (i : grid0.Coords) (v0 : Vec Ideal S1x96x56x224 .f32) (v8 : Vec Ideal S1x96x1x224 .f32)
    (v21 : Vec Ideal S96x1x256 .bf16) :
    k0_pay4 (F := Ideal) i v0 v8 v21 = shifts (flat (xblk (BitVec.ofNat 32 (i 1).val) v0 v8 v21)) := rfl

theorem flat_apply (v : FVec Ideal S96x58x256 .bf16) (c : Fin 96) (q : Fin 14848) (r : Fin 58) (s : Fin 256)
    (hq : q.val = r.val * 256 + s.val) : flat v (ix2 c q) = v (ix3 c r s) := by
  have hs := s.isLt
  unfold flat
  pointwise
  exact congrArg₂ (fun (y : Fin 58) (x : Fin 256) => v (ix3 c y x))
    (Fin.ext (by first | omega | (simp only; omega))) (Fin.ext (by first | omega | (simp only; omega)))

theorem shifts_apply (v : FVec Ideal S96x58x256 .bf16) (k : Fin 288) (q : Fin 14848) (c : Fin 96) (d : Fin 3)
    (r : Fin 58) (s : Fin 256) (hk : k.val = 96 * d.val + c.val) (hq : q.val + d.val = r.val * 256 + s.val) :
    shifts (flat v) (ix2 k q) = v (ix3 c r s) := by
  have hc := c.isLt
  have hr := r.isLt
  have hs := s.isLt
  unfold shifts
  pointwise
  fin_vals d with hd
  all_goals rw [hd] at hk hq
  · rw [dif_pos (by omega)]
    rw [flat_apply v _ _ r s (by first | omega | (simp only; omega))]
    exact congrArg (fun y : Fin 96 => v (ix3 y r s)) (Fin.ext (by first | omega | (simp only; omega)))
  · rw [dif_neg (by omega), dif_pos (by omega), dif_pos (by omega)]
    rw [flat_apply v _ _ r s (by first | omega | (simp only; omega))]
    exact congrArg (fun y : Fin 96 => v (ix3 y r s)) (Fin.ext (by first | omega | (simp only; omega)))
  · rw [dif_neg (by omega), dif_neg (by omega), dif_pos (by omega)]
    rw [flat_apply v _ _ r s (by first | omega | (simp only; omega))]
    exact congrArg (fun y : Fin 96 => v (ix3 y r s)) (Fin.ext (by first | omega | (simp only; omega)))

/-- Which of the four row blocks is the first, and which the last. -/
theorem is_first : ∀ i : Fin 4, Scalar.cmpi .eq (BitVec.ofNat 32 i.val) 0#32 = if i.val = 0 then 1#1 else 0#1 := by decide
theorem is_last : ∀ i : Fin 4, Scalar.cmpi .eq (BitVec.ofNat 32 i.val) 3#32 = if i.val = 3 then 1#1 else 0#1 := by decide

theorem select_one {α : Type} (a b : α) : Scalar.select 1#1 a b = a := rfl
theorem select_zero {α : Type} (a b : α) : Scalar.select 0#1 a b = b := rfl

/-- The block with its two neighbouring rows is the padded plane at the block's rows. -/
theorem xblk_apply (i : Fin 4) (f : Fin 96 → Fin 224 → Fin 224 → EReal) (v0 : Vec Ideal S1x96x56x224 .f32)
    (v8 : Vec Ideal S1x96x1x224 .f32) (v21 : Vec Ideal S96x1x256 .bf16)
    (h0 : ∀ (c : Fin 96) (r : Fin 56) (R x : Fin 224), R.val = 56 * i.val + r.val → v0 (ix4 0 c r x) = f c R x)
    (h8 : ∀ (c : Fin 96) (R x : Fin 224), R.val = 56 * i.val + 56 → v8 (ix4 0 c 0 x) = f c R x)
    (h21 : ∀ (c : Fin 96) (R : Fin 224) (s : Fin 256), R.val + 1 = 56 * i.val → v21 (ix3 c 0 s) = pad1 (f c R) s.val)
    (c : Fin 96) (r : Fin 58) (s : Fin 256) :
    xblk (BitVec.ofNat 32 i.val) v0 v8 v21 (ix3 c r s) = pad2 (f c) (56 * i.val + r.val) s.val := by
  have hi := i.isLt
  have hr := r.isLt
  unfold xblk
  pointwise
  rw [is_first, is_last]
  by_cases h1 : r.val < 1
  · rw [dif_pos h1]
    by_cases hz : i.val = 0
    · rw [if_pos hz, select_one, pad2_out _ _ _ (by omega)]
    · rw [if_neg hz, select_zero, pad2_in _ _ _ ⟨56 * i.val - 1, by omega⟩ (by first | omega | (simp only; omega))]
      rw [← h21 c _ s (by first | omega | (simp only; omega))]
      exact congrArg (fun y : Fin 1 => v21 (ix3 c y s)) (Subsingleton.elim _ _)
  · rw [dif_neg h1]
    by_cases h2 : r.val - 1 < 56
    · rw [dif_pos h2, pay2_apply, pad2_in _ _ _ ⟨56 * i.val + (r.val - 1), by omega⟩ (by first | omega | (simp only; omega))]
      exact congrArg (fun g => pad1 g s.val) (funext fun x => h0 c _ _ x rfl)
    · rw [dif_neg h2]
      by_cases hz : i.val = 3
      · rw [if_pos hz, select_one, pad2_out _ _ _ (by omega)]
      · rw [if_neg hz, select_zero, pad2_in _ _ _ ⟨56 * i.val + 56, by omega⟩ (by first | omega | (simp only; omega))]
        refine (pad1_tests (fun x => v8 (ix4 0 c 0 x)) s.val _).trans ?_
        exact congrArg (fun g => pad1 g s.val) (funext fun x => h8 c _ x rfl)

/-- The same for the mask. -/
theorem pay8_apply (i : Fin 4) (f : Fin 224 → Fin 224 → EReal) (v0 : Vec Ideal S1x1x56x224 .f32)
    (v8 : Vec Ideal S1x1x1x224 .f32) (v21 : Vec Ideal S1x256 .f32)
    (h0 : ∀ (r : Fin 56) (R x : Fin 224), R.val = 56 * i.val + r.val → v0 (ix4 0 0 r x) = f R x)
    (h8 : ∀ (R x : Fin 224), R.val = 56 * i.val + 56 → v8 (ix4 0 0 0 x) = f R x)
    (h21 : ∀ (R : Fin 224) (s : Fin 256), R.val + 1 = 56 * i.val → v21 (ix2 0 s) = pad1 (f R) s.val)
    (r : Fin 58) (s : Fin 256) (R S : ℕ) (hR : R = 56 * i.val + r.val) (hS : S = s.val) :
    k0_pay8 (F := Ideal) (BitVec.ofNat 32 i.val) v0 v8 v21 (ix2 r s) = pad2 f R S := by
  have hi := i.isLt
  have hr := r.isLt
  subst hR hS
  unfold k0_pay8
  pointwise
  have ef := is_first i
  have el := is_last i
  by_cases h1 : r.val < 1
  · rw [dif_pos h1]
    by_cases hz : i.val = 0
    · rw [if_pos hz] at ef; rw [ef, select_one, pad2_out _ _ _ (by omega)]
    · rw [if_neg hz] at ef; rw [ef, select_zero, pad2_in _ _ _ ⟨56 * i.val - 1, by omega⟩ (by first | omega | (simp only; omega))]
      rw [← h21 _ s (by first | omega | (simp only; omega))]
      exact congrArg (fun y : Fin 1 => v21 (ix2 y s)) (Subsingleton.elim _ _)
  · rw [dif_neg h1]
    by_cases h2 : r.val - 1 < 56
    · rw [dif_pos h2, pay7_apply, pad2_in _ _ _ ⟨56 * i.val + (r.val - 1), by omega⟩ (by first | omega | (simp only; omega))]
      exact congrArg (fun g => pad1 g s.val) (funext fun x => h0 _ _ x rfl)
    · rw [dif_neg h2]
      by_cases hz : i.val = 3
      · rw [if_pos hz] at el; rw [el, select_one, pad2_out _ _ _ (by omega)]
      · rw [if_neg hz] at el; rw [el, select_zero, pad2_in _ _ _ ⟨56 * i.val + 56, by omega⟩ (by first | omega | (simp only; omega))]
        refine (pad1_tests (fun x => v8 (ix4 0 0 0 x)) s.val _).trans ?_
        exact congrArg (fun g => pad1 g s.val) (funext fun x => h8 _ x rfl)

/-- The product with the weights: nine taps of 96 channels each, plus the bias. -/
theorem pay6_apply (y0 : ℕ) (P : Fin 96 → Fin 224 → Fin 224 → EReal) (xb : FVec Ideal S96x58x256 .bf16)
    (W : SW.Idx → EReal) (B : SB.Idx → EReal)
    (v36 : FVec Ideal S288x14336 .bf16) (v40 : Vec Ideal S864x96 .bf16) (v43 : Vec Ideal S96x1 .f32)
    (hx : ∀ (c : Fin 96) (r : Fin 58) (s : Fin 256), xb (ix3 c r s) = pad2 (P c) (y0 + r.val) s.val)
    (h36 : ∀ (k : Fin 288) (q : Fin 14336) (q' : Fin 14848), q'.val = q.val → v36 (ix2 k q) = shifts (flat xb) (ix2 k q'))
    (o : Fin 96)
    (h40 : ∀ (j : Fin 9) (c : Fin 96) (k : Fin 864), k.val = 96 * j.val + c.val → v40 (ix2 k o) = W (ix4 o c (ty j) (tx j)))
    (h43 : v43 (ix2 o 0) = B (ix1 o))
    (r : Fin 56) (s : Fin 256) (hs : s.val < 224) :
    k0_pay6 (F := Ideal) (shifts (flat xb)) v36 v40 v43 (ix3 o r s)
      = (∑ j : Fin 9, tap P W o (y0 + r.val) s.val j) + B (ix1 o) := by
  have hr := r.isLt
  unfold k0_pay6
  pointwise [dot_S864x96_S864x14336_S96x14336_0_0_1_1_n_n]
  rw [h43, sum_864]
  refine congrArg (· + B (ix1 o)) (Finset.sum_congr rfl fun j _ => Finset.sum_congr rfl fun c _ => ?_)
  have hj := j.isLt
  have hc := c.isLt
  rw [h40 j c _ rfl]
  refine congrArg (W (ix4 o c (ty j) (tx j)) * ·) ?_
  have key : ∀ (k : Fin 288) (q : Fin 14848), k.val = 96 * (tx j).val + c.val →
      q.val = (ty j).val * 256 + (r.val * 256 + s.val) →
      shifts (flat xb) (ix2 k q) = pad2 (P c) (y0 + r.val + (ty j).val) (s.val + (tx j).val) := by
    intro k q hk hq
    have h3 := (ty j).isLt
    have h4 := (tx j).isLt
    rw [shifts_apply xb k q c (tx j) ⟨r.val + (ty j).val, by omega⟩ ⟨s.val + (tx j).val, by omega⟩ hk (by first | omega | (simp only; omega)),
      hx]
    simp only [Nat.add_assoc]
  have e1 : (ty j).val = j.val / 3 := rfl
  have e2 : (tx j).val = j.val % 3 := rfl
  by_cases ha : 96 * j.val + c.val < 288
  · rw [dif_pos ha, h36 _ _ ⟨r.val * 256 + s.val, by omega⟩ rfl]
    exact key _ _ (by dsimp only; omega) (by dsimp only; omega)
  · rw [dif_neg ha]
    by_cases hb : 96 * j.val + c.val - 288 < 288
    · rw [dif_pos hb]
      exact key _ _ (by dsimp only; omega) (by dsimp only; omega)
    · rw [dif_neg hb]
      exact key _ _ (by dsimp only; omega) (by dsimp only; omega)

theorem pay5_apply (i : grid0.Coords) (v0 : Vec Ideal S1x96x56x224 .f32) (v8 : Vec Ideal S1x96x1x224 .f32)
    (v21 : Vec Ideal S96x1x256 .bf16) (k : Fin 288) (q : Fin 14336) (q' : Fin 14848) (h : q'.val = q.val) :
    k0_pay5 (F := Ideal) i v0 v8 v21 (ix2 k q) = k0_pay4 i v0 v8 v21 (ix2 k q') := by
  unfold k0_pay5
  generalize k0_pay4 i v0 v8 v21 = y
  pointwise
  exact congrArg (fun z : Fin 14848 => y (ix2 k z)) (Fin.ext (by first | omega | (simp only; omega)))

/-- The selection by the mask's window sum. -/
theorem pay1_apply (y0 : ℕ) (M : Fin 224 → Fin 224 → EReal) (v47 : FVec Ideal S96x56x256 .f32) (v69 : FVec Ideal S58x256 .f32)
    (hm : ∀ (r : Fin 58) (s : Fin 256), v69 (ix2 r s) = pad2 M (y0 + r.val) s.val)
    (c : Fin 96) (r : Fin 56) (s : Fin 224) (s' : Fin 256) (hs : s'.val = s.val) :
    k0_pay1 (F := Ideal) v47 v69 (ix4 0 c r s) = if 0 < wsum M (y0 + r.val) s.val then v47 (ix3 c r s') else 0 := by
  have hs1 := s.isLt
  unfold k0_pay1
  pointwise
  have h5 : s.val < 255 := by omega
  have h4 : s.val < 254 := by omega
  simp only [hm, h5, h4, dite_true]
  rw [wsum_nine]
  have es : (⟨s.val, by omega⟩ : Fin 256) = s' := Fin.ext hs.symm
  rw [es, Nat.add_comm 1 s.val, Nat.add_comm 2 s.val, Nat.add_comm 1 r.val, Nat.add_comm 2 r.val,
    ← Nat.add_assoc y0 r.val 1, ← Nat.add_assoc y0 r.val 2]
  simp only [← add_assoc (G := EReal)]

/-- The block that a point stores. -/
theorem outV_apply (g : grid0.Coords) (i : Fin 4) (hg : (g 1).val = i.val) (P : Fin 96 → Fin 224 → Fin 224 → EReal)
    (M : Fin 224 → Fin 224 → EReal) (W : SW.Idx → EReal) (B : SB.Idx → EReal)
    (x0 : Vec Ideal S1x96x56x224 .f32) (x1 : Vec Ideal S1x96x8x224 .f32) (x2 : Vec Ideal S1x1x56x224 .f32)
    (x3 : Vec Ideal S1x1x8x224 .f32) (x4 : Vec Ideal S864x96 .bf16) (x5 : Vec Ideal S96x1 .f32)
    (s0 : Vec Ideal S96x1x256 .bf16) (s1 : Vec Ideal S1x256 .f32)
    (h0 : ∀ (c : Fin 96) (r : Fin 56) (R x : Fin 224), R.val = 56 * i.val + r.val → x0 (ix4 0 c r x) = P c R x)
    (h1 : ∀ (c : Fin 96) (R x : Fin 224), R.val = 56 * i.val + 56 → x1 (ix4 0 c 0 x) = P c R x)
    (h2 : ∀ (r : Fin 56) (R x : Fin 224), R.val = 56 * i.val + r.val → x2 (ix4 0 0 r x) = M R x)
    (h3 : ∀ (R x : Fin 224), R.val = 56 * i.val + 56 → x3 (ix4 0 0 0 x) = M R x)
    (h4 : ∀ (o : Fin 96) (j : Fin 9) (c : Fin 96) (k : Fin 864), k.val = 96 * j.val + c.val →
      x4 (ix2 k o) = W (ix4 o c (ty j) (tx j)))
    (h5 : ∀ o : Fin 96, x5 (ix2 o 0) = B (ix1 o))
    (hs0 : ∀ (c : Fin 96) (R : Fin 224) (s : Fin 256), R.val + 1 = 56 * i.val → s0 (ix3 c 0 s) = pad1 (P c R) s.val)
    (hs1 : ∀ (R : Fin 224) (s : Fin 256), R.val + 1 = 56 * i.val → s1 (ix2 0 s) = pad1 (M R) s.val)
    (o : Fin 96) (r : Fin 56) (s : Fin 224) :
    outV g x0 x1 x2 x3 x4 x5 s0 s1 (ix4 0 o r s) = cell P M W B o (56 * i.val + r.val) s.val := by
  have hs := s.isLt
  unfold outV
  rw [pay1_apply (56 * i.val) M _ _ (fun r' s' => by
    rw [hg]
    exact pay8_apply i M x2 (row3 x3) s1 h2 (fun R x hR => (row3_apply x3 x).trans (h3 R x hR)) hs1 r' s' _ _ rfl rfl)
    o r s ⟨s.val, by omega⟩ rfl]
  unfold cell
  refine if_congr Iff.rfl ?_ rfl
  have e4 : k0_pay4 (F := Ideal) g x0 (row1 x1) s0 = shifts (flat (xblk (BitVec.ofNat 32 i.val) x0 (row1 x1) s0)) := by
    rw [pay4_eq, hg]
  have e5 : ∀ (k : Fin 288) (q : Fin 14336) (q' : Fin 14848), q'.val = q.val → k0_pay5 (F := Ideal) g x0 (row1 x1) s0 (ix2 k q)
      = shifts (flat (xblk (BitVec.ofNat 32 i.val) x0 (row1 x1) s0)) (ix2 k q') := fun k q q' h => by
    rw [pay5_apply g x0 (row1 x1) s0 k q q' h, e4]
  rw [e4]
  exact pay6_apply (56 * i.val) P _ W B _ x4 x5
    (xblk_apply i P x0 (row1 x1) s0 h0 (fun c R x hR => (row1_apply x1 c x).trans (h1 c R x hR)) hs0)
    e5 o (h4 o) (h5 o) r ⟨s.val, by omega⟩ hs

end Cert.KernelIdeal.Body

end
-- ==== Proof.Final.lean ====
/- The idealized kernel's output array: what every window holds of the arrays, and from it that the blocks that the
   points store are the blocks of the convolution, which cover the array. -/
module

public import proofs.«01_k».proof.Proof.Run
public import proofs.«01_k».proof.Proof.Pay
public import Idealize.ShloMosaic.Lib.Pipeline.ValueKit
public import Idealize.ShloMosaic.Lib.StableHlo.ReadAt

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)
open Cert.Taps

variable (m : (ℓ : Loc nD τ sig) → Buf (Elt Ideal) ℓ) (ρ : Dev nD → PrngReg) (d : Dev nD)

/-- Point `t` is row block `t % 4` of image `t / 4`; where every window's block then lies. -/
theorem places : ∀ t : Fin grid0.N,
    (grid0.coords t 0).val = t.val / 4 ∧ (grid0.coords t 1).val = t.val % 4
    ∧ win0_0.index t = ![t.val / 4, 0, t.val % 4, 0]
    ∧ win0_1.index t = ![t.val / 4, 0, min (7 * (t.val % 4) + 7) 27, 0]
    ∧ win0_2.index t = ![t.val / 4, 0, t.val % 4, 0]
    ∧ win0_3.index t = ![t.val / 4, 0, min (7 * (t.val % 4) + 7) 27, 0]
    ∧ win0_4.index t = ![0, 0] ∧ win0_5.index t = ![0, 0]
    ∧ win0_6.index t = ![t.val / 4, 0, t.val % 4, 0] := by decide +kernel

theorem iblk0 (t : Fin cfg0.N) (b : Fin 4) (hb : b.val = t.val / 4) (ch : Fin 96) (r : Fin 56) (R x : Fin 224)
    (hR : R.val = 56 * (t.val % 4) + r.val) :
    iblk m d 0 t (ix4 0 ch r x) = m ((d : Thread nD τ).loc main_arg0) (ix4 b ch R x) := by
  have e := places t
  blk_ext [iblk, V_main_arg0, e.2.2.1]

theorem iblk1 (t : Fin cfg0.N) (b : Fin 4) (hb : b.val = t.val / 4) (ch : Fin 96) (R x : Fin 224)
    (hR : R.val = 56 * (t.val % 4) + 56) :
    iblk m d 1 t (ix4 0 ch 0 x) = m ((d : Thread nD τ).loc main_arg0) (ix4 b ch R x) := by
  have e := places t
  have hR' := R.isLt
  have hm : min (7 * (t.val % 4) + 7) 27 = 7 * (t.val % 4) + 7 := by omega
  rw [hm] at e
  blk_ext [iblk, V_main_arg0, e.2.2.2.1]

theorem iblk2 (t : Fin cfg0.N) (b : Fin 4) (hb : b.val = t.val / 4) (r : Fin 56) (R x : Fin 224)
    (hR : R.val = 56 * (t.val % 4) + r.val) :
    iblk m d 2 t (ix4 0 0 r x) = m ((d : Thread nD τ).loc main_arg1) (ix4 b 0 R x) := by
  have e := places t
  blk_ext [iblk, V_main_arg1, e.2.2.2.2.1]

theorem iblk3 (t : Fin cfg0.N) (b : Fin 4) (hb : b.val = t.val / 4) (R x : Fin 224)
    (hR : R.val = 56 * (t.val % 4) + 56) :
    iblk m d 3 t (ix4 0 0 0 x) = m ((d : Thread nD τ).loc main_arg1) (ix4 b 0 R x) := by
  have e := places t
  have hR' := R.isLt
  have hm : min (7 * (t.val % 4) + 7) 27 = 7 * (t.val % 4) + 7 := by omega
  rw [hm] at e
  blk_ext [iblk, V_main_arg1, e.2.2.2.2.2.1]

/-- The weights as the host lays them out: row `96 (3 ky + kx) + c`, column the output channel. -/
theorem V_weights (k : Fin 864) (o : Fin 96) (j : Fin 9) (c : Fin 96) (hk : k.val = 96 * j.val + c.val) :
    V m d main_v2 (ix2 k o) = m ((d : Thread nD τ).loc main_arg2) (ix4 o c (ty j) (tx j)) := by
  have hj := j.isLt
  have hc := c.isLt
  unfold V
  after_reads_at
  have e1 : (⟨k.val % 96, by omega⟩ : Fin 96) = c := Fin.ext (by simp only; omega)
  have e2 : (⟨k.val / 288, by omega⟩ : Fin 3) = ty j := Fin.ext (by simp only [ty]; omega)
  have e3 : (⟨k.val / 96 % 3, by omega⟩ : Fin 3) = tx j := Fin.ext (by simp only [tx]; omega)
  rw [e1, e2, e3]

theorem V_bias (o : Fin 96) : V m d main_v3 (ix2 o 0) = m ((d : Thread nD τ).loc main_arg3) (ix1 o) := by
  unfold V
  after_reads_at

theorem iblk4 (t : Fin cfg0.N) (k : Fin 864) (o : Fin 96) : iblk m d 4 t (ix2 k o) = V m d main_v2 (ix2 k o) := by
  have e := places t
  blk_ext [iblk, e.2.2.2.2.2.2.1]

theorem iblk5 (t : Fin cfg0.N) (o : Fin 96) : iblk m d 5 t (ix2 o 0) = V m d main_v3 (ix2 o 0) := by
  have e := places t
  blk_ext [iblk, e.2.2.2.2.2.2.2.1]

/-- The convolution of the arguments. -/
def result (d : Dev nD) : Buf (Elt Ideal) ((d : Thread nD τ).loc main_v4) :=
  conv (m ((d : Thread nD τ).loc main_arg0)) (m ((d : Thread nD τ).loc main_arg1)) (m ((d : Thread nD τ).loc main_arg2))
    (m ((d : Thread nD τ).loc main_arg3))

/-- What point `t` stores, at an index of its block. -/
theorem outT_apply (t : Fin cfg0.N) (b : Fin 4) (hb : b.val = t.val / 4) (o : Fin 96) (r : Fin 56) (s R : Fin 224)
    (hR : R.val = 56 * (t.val % 4) + r.val) :
    outT m d t (ix4 0 o r s) = result m d (ix4 b o R s) := by
  have hN : cfg0.N = 16 := N_0
  have ht := t.isLt
  have e := places t
  have hp : ∀ Q : Fin 224, Q.val + 1 = 56 * (t.val % 4) → (prev t).val = t.val - 1 ∧ b.val = (prev t).val / 4
      ∧ Q.val = 56 * ((prev t).val % 4) + 55 := by
    intro Q hQ
    have h1 : (prev t).val = t.val - 1 := rfl
    rw [h1]
    refine ⟨rfl, ?_, ?_⟩ <;> omega
  unfold outT
  refine (outV_apply (grid0.coords t) ⟨t.val % 4, by omega⟩ e.2.1 (plane (m ((d : Thread nD τ).loc main_arg0)) b)
    (mplane (m ((d : Thread nD τ).loc main_arg1)) b) (m ((d : Thread nD τ).loc main_arg2)) (m ((d : Thread nD τ).loc main_arg3))
    _ _ _ _ _ _ _ _ ?_ ?_ ?_ ?_ ?_ ?_ ?_ ?_ o r s).trans ?_
  · intro c r' R' x h; exact iblk0 m d t b hb c r' R' x h
  · intro c R' x h; exact iblk1 m d t b hb c R' x h
  · intro r' R' x h; exact iblk2 m d t b hb r' R' x h
  · intro R' x h; exact iblk3 m d t b hb R' x h
  · intro o' j c k h; exact (iblk4 m d t k o').trans (V_weights m d k o' j c h)
  · intro o'; exact (iblk5 m d t o').trans (V_bias m d o')
  · intro c Q s' h
    obtain ⟨-, h1, h2⟩ := hp Q h
    exact (pay3_apply _ c s').trans (congrArg (fun g => pad1 g s'.val) (funext fun x => iblk0 m d (prev t) b h1 c 55 Q x h2))
  · intro Q s' h
    obtain ⟨-, h1, h2⟩ := hp Q h
    exact (pay9_apply _ s').trans (congrArg (fun g => pad1 g s'.val) (funext fun x => iblk2 m d (prev t) b h1 55 Q x h2))
  · show cell _ _ _ _ o (56 * (t.val % 4) + r.val) s.val = cell _ _ _ _ o R.val s.val
    rw [hR]
    rfl

/-- The output's blocks cover its array. -/
theorem covers : (cfg0.win 6).Covers := by decide +kernel

/-- Where an index of point `t`'s block lies in the output array. -/
theorem emb_out (t : Fin cfg0.N) (b : Fin 4) (hb : b.val = t.val / 4) (o : Fin 96) (r : Fin 56) (s R : Fin 224)
    (hR : R.val = 56 * (t.val % 4) + r.val) :
    ix4 b o R s = ((cfg0.win 6).blk t).view.emb (ix4 0 o r s) := by
  have e := places t
  blk_ext [e.2.2.2.2.2.2.2.2]

/-- So the output array ends at the convolution. -/
theorem final : (dats m 0 d).arrAt 6 cfg0.N = result m d := by
  refine (dats m 0 d).arrAt_eq_of_covers 6 _ covers fun t hf y => ?_
  have hN : cfg0.N = 16 := N_0
  have ht : t.val < cfg0.N := t.isLt
  blk_simp
  rw [after6]
  have key : ∀ (y0 : Fin 1) (o : Fin 96) (r : Fin 56) (s : Fin 224),
      outT m d t (ix4 y0 o r s) = result m d (((cfg0.win 6).blk t).view.emb (ix4 y0 o r s)) := by
    intro y0 o r s
    obtain rfl : y0 = 0 := Subsingleton.elim _ _
    have hr := r.isLt
    exact (outT_apply m d t ⟨t.val / 4, by omega⟩ rfl o r s ⟨56 * (t.val % 4) + r.val, by omega⟩ rfl).trans
      (congrArg (result m d) (emb_out t _ rfl o r s _ rfl))
  have ey : y = ix4 (y 0 : Fin 1) (y 1 : Fin 96) (y 2 : Fin 56) (y 3 : Fin 224) := eq_ix4 y
  rw [ey]
  exact key _ _ _ _

/-- The run of the idealized kernel, read. -/
theorem run_result : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (run_out m ρ)

end Cert.KernelIdeal.Body

end
-- ==== Proof.Ref.lean ====
/- The reference's value at an index: the same convolution, once the mask has no negative entry. -/
module

public import proofs.«01_k».proof.Proof.Gen.ReferenceIdeal.Read
public import proofs.«01_k».proof.Proof.Taps

@[expose] public section

set_option maxRecDepth 16384

noncomputable section

namespace Cert.ReferenceIdeal.Conv

open Cert.ReferenceIdeal Cert.ReferenceIdeal.Gen Cert.ReferenceIdeal.Read
open Idealize.ShloMosaic
open Cert.Taps

variable (X : SX.Idx → EReal) (M : SM.Idx → EReal) (W : SW.Idx → EReal) (B : SB.Idx → EReal)

theorem zero_word : (((0#32 : BitVec 32).toInt : ℝ) : EReal) = 0 := by simp

/-- The padded image. -/
theorem pad_x (b : Fin 4) (c : Fin 96) (r s : Fin 226) :
    val_main_v0 (F := Ideal) X (ix4 b c r s) = pad2 (plane X b c) r.val s.val := by
  unfold val_main_v0
  pointwise
  rw [pad2_all, show val_main_call0_v0 (F := Ideal) (Shape.Idx.first h_S_) = 0 from zero_word]
  unfold plane
  by_cases h : (1 ≤ r.val ∧ r.val ≤ 224) ∧ 1 ≤ s.val ∧ s.val ≤ 224
  · rw [dif_pos h, dif_pos (by omega)]
  · rw [dif_neg h, dif_neg (by omega)]

/-- Where the mask is not zero. -/
def ind (f : Fin 224 → Fin 224 → EReal) : Fin 224 → Fin 224 → EReal := fun y x => if f y x = 0 then 0 else 1

theorem ind_bit (a : EReal) :
    FloatOps.uitofp (F := Ideal) FTy.f32 (BitVec.ofBool (decide (a ≠ 0))) = if a = 0 then (0 : EReal) else 1 := by
  show (((BitVec.ofBool (decide (a ≠ 0))).toNat : ℝ) : EReal) = _
  by_cases h : a = 0 <;> simp [h]

/-- The padded indicator of the mask. -/
theorem pad_m (b : Fin 4) (r s : Fin 226) :
    val_main_v62 (F := Ideal) M (ix4 b 0 r s) = pad2 (ind (mplane M b)) r.val s.val := by
  unfold val_main_v62 val_main_v61 val_main_v60 val_main_v59 val_main_cst_0
  pointwise
  rw [pad2_all, show val_main_call1_v0 (F := Ideal) (Shape.Idx.first h_S_) = 0 from zero_word]
  unfold ind mplane
  by_cases h : (1 ≤ r.val ∧ r.val ≤ 224) ∧ 1 ≤ s.val ∧ s.val ≤ 224
  · rw [dif_pos h, dif_pos (by omega)]
    exact ind_bit _
  · rw [dif_neg h, dif_neg (by omega)]

theorem tap_term (b : Fin 4) (o c : Fin 96) (r s : Fin 226) (j : Fin 9) (y x : ℕ) (ky kx : Fin 3)
    (hy : ty j = ky) (hx : tx j = kx) (hr : r.val = y + (ty j).val) (hs : s.val = x + (tx j).val) :
    W (ix4 o c ky kx) * val_main_v0 (F := Ideal) X (ix4 b c r s)
      = W (ix4 o c (ty j) (tx j)) * pad2 (plane X b c) (y + (ty j).val) (x + (tx j).val) := by
  rw [pad_x, hr, hs, hy, hx]

/-! The nine taps. -/

theorem tap0 (b : Fin 4) (o : Fin 96) (y x : Fin 224) :
    val_main_v5 (F := Ideal) X W (ix4 b o y x) = tap (plane X b) W o y.val x.val 0 := by
  unfold val_main_v5 val_main_v4 val_main_v3 val_main_v2 val_main_v1
  pointwise
  exact Finset.sum_congr rfl fun c _ => tap_term X W b o c _ _ 0 y.val x.val 0 0 rfl rfl
    (by show _ = y.val + 0; simp only; omega) (by show _ = x.val + 0; simp only; omega)

theorem tap1 (b : Fin 4) (o : Fin 96) (y x : Fin 224) :
    val_main_v12 (F := Ideal) X W (ix4 b o y x) = tap (plane X b) W o y.val x.val 1 := by
  unfold val_main_v12 val_main_v11 val_main_v10 val_main_v9 val_main_v8
  pointwise
  exact Finset.sum_congr rfl fun c _ => tap_term X W b o c _ _ 1 y.val x.val 0 1 rfl rfl
    (by show _ = y.val + 0; simp only; omega) (by show _ = x.val + 1; simp only; omega)

theorem tap2 (b : Fin 4) (o : Fin 96) (y x : Fin 224) :
    val_main_v18 (F := Ideal) X W (ix4 b o y x) = tap (plane X b) W o y.val x.val 2 := by
  unfold val_main_v18 val_main_v17 val_main_v16 val_main_v15 val_main_v14
  pointwise
  exact Finset.sum_congr rfl fun c _ => tap_term X W b o c _ _ 2 y.val x.val 0 2 rfl rfl
    (by show _ = y.val + 0; simp only; omega) (by show _ = x.val + 2; simp only; omega)

theorem tap3 (b : Fin 4) (o : Fin 96) (y x : Fin 224) :
    val_main_v24 (F := Ideal) X W (ix4 b o y x) = tap (plane X b) W o y.val x.val 3 := by
  unfold val_main_v24 val_main_v23 val_main_v22 val_main_v21 val_main_v20
  pointwise
  exact Finset.sum_congr rfl fun c _ => tap_term X W b o c _ _ 3 y.val x.val 1 0 rfl rfl
    (by show _ = y.val + 1; simp only; omega) (by show _ = x.val + 0; simp only; omega)

theorem tap4 (b : Fin 4) (o : Fin 96) (y x : Fin 224) :
    val_main_v30 (F := Ideal) X W (ix4 b o y x) = tap (plane X b) W o y.val x.val 4 := by
  unfold val_main_v30 val_main_v29 val_main_v28 val_main_v27 val_main_v26
  pointwise
  exact Finset.sum_congr rfl fun c _ => tap_term X W b o c _ _ 4 y.val x.val 1 1 rfl rfl
    (by show _ = y.val + 1; simp only; omega) (by show _ = x.val + 1; simp only; omega)

theorem tap5 (b : Fin 4) (o : Fin 96) (y x : Fin 224) :
    val_main_v36 (F := Ideal) X W (ix4 b o y x) = tap (plane X b) W o y.val x.val 5 := by
  unfold val_main_v36 val_main_v35 val_main_v34 val_main_v33 val_main_v32
  pointwise
  exact Finset.sum_congr rfl fun c _ => tap_term X W b o c _ _ 5 y.val x.val 1 2 rfl rfl
    (by show _ = y.val + 1; simp only; omega) (by show _ = x.val + 2; simp only; omega)

theorem tap6 (b : Fin 4) (o : Fin 96) (y x : Fin 224) :
    val_main_v42 (F := Ideal) X W (ix4 b o y x) = tap (plane X b) W o y.val x.val 6 := by
  unfold val_main_v42 val_main_v41 val_main_v40 val_main_v39 val_main_v38
  pointwise
  exact Finset.sum_congr rfl fun c _ => tap_term X W b o c _ _ 6 y.val x.val 2 0 rfl rfl
    (by show _ = y.val + 2; simp only; omega) (by show _ = x.val + 0; simp only; omega)

theorem tap7 (b : Fin 4) (o : Fin 96) (y x : Fin 224) :
    val_main_v48 (F := Ideal) X W (ix4 b o y x) = tap (plane X b) W o y.val x.val 7 := by
  unfold val_main_v48 val_main_v47 val_main_v46 val_main_v45 val_main_v44
  pointwise
  exact Finset.sum_congr rfl fun c _ => tap_term X W b o c _ _ 7 y.val x.val 2 1 rfl rfl
    (by show _ = y.val + 2; simp only; omega) (by show _ = x.val + 1; simp only; omega)

theorem tap8 (b : Fin 4) (o : Fin 96) (y x : Fin 224) :
    val_main_v54 (F := Ideal) X W (ix4 b o y x) = tap (plane X b) W o y.val x.val 8 := by
  unfold val_main_v54 val_main_v53 val_main_v52 val_main_v51 val_main_v50
  pointwise
  exact Finset.sum_congr rfl fun c _ => tap_term X W b o c _ _ 8 y.val x.val 2 2 rfl rfl
    (by show _ = y.val + 2; simp only; omega) (by show _ = x.val + 2; simp only; omega)

/-- The nine taps added up. -/
theorem taps_sum (b : Fin 4) (o : Fin 96) (y x : Fin 224) :
    val_main_v55 (F := Ideal) X W (ix4 b o y x) = ∑ j : Fin 9, tap (plane X b) W o y.val x.val j := by
  unfold val_main_v55 val_main_v49 val_main_v43 val_main_v37 val_main_v31 val_main_v25 val_main_v19 val_main_v13 val_main_v7 val_main_v6 val_main_cst
  pointwise
  rw [sum_nine, tap0, tap1, tap2, tap3, tap4, tap5, tap6, tap7, tap8]

/-- The window sum of the indicator. -/
theorem mask_sum (b : Fin 4) (y x : Fin 224) :
    val_main_v81 (F := Ideal) M (ix4 b 0 y x) = wsum (ind (mplane M b)) y.val x.val := by
  unfold val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_cst_2
  pointwise
  simp only [pad_m]
  rw [wsum_nine]
  simp only [Nat.add_comm 1, Nat.add_comm 2]

theorem pos_sum_iff (f : Fin 9 → EReal) (hf : ∀ j, 0 ≤ f j) : 0 < ∑ j, f j ↔ ∃ j, f j ≠ 0 := by
  have h0 : 0 ≤ ∑ j, f j := Finset.sum_nonneg fun j _ => hf j
  have h1 := Finset.sum_eq_zero_iff_of_nonneg (s := Finset.univ) (f := f) fun j _ => hf j
  rw [lt_iff_le_and_ne]
  constructor
  · rintro ⟨-, h⟩
    by_contra hc
    exact h (h1.mpr fun j _ => not_not.mp fun hj => hc ⟨j, hj⟩).symm
  · rintro ⟨j, hj⟩
    exact ⟨h0, fun h => hj (h1.mp h.symm j (Finset.mem_univ j))⟩

/-- A window has a positive sum of the mask exactly when it has a positive count of nonzero entries. -/
theorem wsum_ind (f : Fin 224 → Fin 224 → EReal) (hf : ∀ y x, 0 ≤ f y x) (y x : ℕ) :
    0 < wsum (ind f) y x ↔ 0 < wsum f y x := by
  have hp : ∀ r s, 0 ≤ pad2 f r s := fun r s => by
    rw [pad2_all]; split_ifs
    · exact hf _ _
    · exact le_refl _
  have hi : ∀ r s, 0 ≤ pad2 (ind f) r s := fun r s => by
    rw [pad2_all]; unfold ind; split_ifs <;> simp
  have he : ∀ r s, pad2 (ind f) r s ≠ 0 ↔ pad2 f r s ≠ 0 := fun r s => by
    rw [pad2_all, pad2_all]; unfold ind; split_ifs <;> simp_all
  unfold wsum
  rw [pos_sum_iff _ fun j => hi _ _, pos_sum_iff _ fun j => hp _ _]
  exact exists_congr fun j => he _ _

/-- The reference's result, where the mask has no negative entry. -/
theorem value (hM : ∀ i, 0 ≤ M i) : val_main_v85 (F := Ideal) X M W B = conv X M W B := by
  funext i
  obtain ⟨b, o, y, x, rfl⟩ : ∃ (b : Fin 4) (o : Fin 96) (y x : Fin 224), i = ix4 b o y x := ⟨i 0, i 1, i 2, i 3, eq_ix4 i⟩
  show _ = cell (plane X b) (mplane M b) W B o y.val x.val
  unfold val_main_v85 val_main_call2_v0 val_main_v84 val_main_v83 val_main_v82 val_main_v58 val_main_v57 val_main_v56 val_main_cst_3 val_main_cst_4
  pointwise
  rw [taps_sum, mask_sum]
  unfold cell
  exact if_congr (wsum_ind (mplane M b) (fun _ _ => hM _) _ _) rfl rfl

end Cert.ReferenceIdeal.Conv

end
-- ==== Proof.Pre.lean ====
/- The precondition decoded: when the printed predicate holds, no entry of the mask is negative. -/
module

public import proofs.«01_k».proof.Pre_mask_nonneg
public import Idealize.ShloMosaic.Lib.ReduceAll
public import Idealize.ShloMosaic.Lib.Pointwise

@[expose] public section

set_option maxRecDepth 16384

noncomputable section

namespace Cert.Pre_mask_nonneg

open Idealize.ShloMosaic

/-- The shape conditions that the predicate states. -/
theorem facts : Facts where
  bcast_S_S4x1x224x224 := by decide
  reducesTo_S4x1x224x224_S_d0_1_2_3 := by decide
  h_S_ := by decide

/-- Where the predicate holds, no entry of the mask is negative. -/
theorem nonneg [Facts] (X : S4x96x224x224.Idx → EReal) (M : S4x1x224x224.Idx → EReal) (W : S96x96x3x3.Idx → EReal)
    (B : S96.Idx → EReal) (h : fn (F := Ideal) X M W B = fun _ => 1#1) (i : S4x1x224x224.Idx) : 0 ≤ M i := by
  have e := congrFun h (fun a => a.elim0)
  unfold fn at e
  have : Subsingleton S_.Idx := ⟨fun a b => funext fun k => k.elim0⟩
  have e2 := Host.reduce_andi_all _ _ _ _ _ e i
  pointwise at e2
  by_contra hn
  rw [decide_eq_false hn] at e2
  exact absurd e2 (by decide)

end Cert.Pre_mask_nonneg

end
-- ==== Proof.lean ====
/- The proof of the certificate's claim: the runs of the kernel, of its idealization and of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Final
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_r : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel and the reference end with the same result, where the mask has no negative entry: the
    masked convolution of the arguments. -/
theorem values [hPre_mask_nonneg : Cert.Pre_mask_nonneg.Facts] :
    Cert.algebraic_KernelIdeal_ReferenceIdeal_pre_mask_nonneg := by
  intro m g m' g' hpre hargs
  refine ⟨fun c => Cert.KernelIdeal.Body.result m c, Cert.KernelIdeal.Body.run_result m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3⟩ := hargs c
  rw [Cert.ReferenceIdeal.Read.val_main_v85_eq, a0, a1, a2, a3]
  exact Cert.ReferenceIdeal.Conv.value _ _ _ _ (Cert.Pre_mask_nonneg.nonneg _ _ _ _ (hpre c))

/-- All the claims together. With no rewrite rule in use, that the ideal program is the kernel holds by definition. -/
theorem claim : Cert.Claim :=
  ⟨Cert.Kernel.Gen.facts, Cert.KernelIdeal.Gen.facts, Cert.ReferenceIdeal.Gen.facts, Cert.Pre_mask_nonneg.facts,
    fun m ρ _ => Cert.Kernel.Same.frame m ρ, fun m ρ _ => Cert.KernelIdeal.Body.frame_zero m ρ,
    fun m ρ _ => Cert.KernelIdeal.Body.frame_zero m ρ, frame_r, fun m ρ _ => frame_r m ρ trivial, trivial,
    values (hPre_mask_nonneg := Cert.Pre_mask_nonneg.facts)⟩

end Cert.Proof

end
